-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x80 : Shape := ⟨3, ![16, 4096, 80]⟩
abbrev S16 : Shape := ⟨1, ![16]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16x4096x80, .f32⟩
  | .hbm, ⟨1, _⟩ => ⟨S16, .i32⟩
  | .hbm, ⟨2, _⟩ => ⟨S16x4096x80, .f32⟩
  | .hbm, ⟨3, _⟩ => ⟨S16, .i32⟩
  | _, _ => ⟨S16x4096x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩

abbrev nD : Nat := 1
abbrev τ : Topo := Topo.v7x

variable {F : FTy → Type} [FloatOps F]

abbrev grid0 : Pipeline.Grid := .none
-- ==== ReferenceIdeal.lean ====
abbrev S16x4096x80 : Shape := ⟨3, ![16, 4096, 80]⟩
abbrev S16 : Shape := ⟨1, ![16]⟩

abbrev nBuf : Space → Nat
  | .hbm => 2
  | .vmem => 0
  | .smem => 0
  | _ => 0

abbrev bufTy : (tb : Table) → Fin (tcTables nBuf tb) → BufTy
  | .hbm, ⟨0, _⟩ => ⟨S16x4096x80, .f32⟩
  | .hbm, ⟨1, _⟩ => ⟨S16, .i32⟩
  | _, _ => ⟨S16x4096x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩

abbrev nD : Nat := 1
abbrev τ : Topo := Topo.v7x

variable {F : FTy → Type} [FloatOps F]
-- ==== Proof.Copies.lean ====
/- Hand-written. What the kernel's body does: from the two arguments, the two results and its two DMA counters at zero,
   both copies are started, both are waited for, and each result then holds its argument's words. -/
module

public import proofs.«01_k».proof.Proof.Gen.KernelIdeal.Launch
public import proofs.«01_k».proof.Proof.Gen.KernelIdeal.Points
public import Idealize.ShloMosaic.Lib.Pipeline.Routed
public import Idealize.ShloMosaic.Lib.Tactic

@[expose] public section

noncomputable section

namespace Cert.KernelIdeal.Copies

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The core holds buffer `b` whole, at contents `f`. -/
abbrev holds (c : Dev nD) (b : Ref sig .tc) (f : Buf (Elt F) ((c : Thread nD τ).loc b)) : sProp 𝕄 :=
  (Memref.whole b).view.loc (c : Thread nD τ) ↦{fullShare} f

/-- The two DMA counters the copies complete on, both at zero. -/
abbrev idleCounters (c : Dev nD) : sProp 𝕄 :=
  iprop(semVal ((c : Thread nD τ), SemLoc.dma 0) 0 ∗ semVal ((c : Thread nD τ), SemLoc.dma 1) 0)

/-- The body, run by core `c`: the features' and the lengths' words arrive in the two results, the arguments are held as
    before, and both counters are at zero again. -/
theorem body_copies (c : Dev nD) (x y : Buf (Elt F) ((c : Thread nD τ).loc main_arg0))
    (n k : Buf (Elt F) ((c : Thread nD τ).loc main_arg1)) (W : Waits sig Unit) (t : Fin cfg0.N) :
    iprop((holds c main_arg0 x ∗ holds c main_arg1 n ∗ holds c main_v0_0 y ∗ holds c main_v0_1 k) ∗ idleCounters c
        ∗ owes (c : Thread nD τ) 0 W)
      ⊢ wp frame (wpE defs₀ Variants.none (c : Thread nD τ) none) Set.univ (bodyAt0 (F := F) t) (fun _ =>
          iprop((holds c main_arg0 x ∗ holds c main_arg1 n ∗ holds c main_v0_0 x ∗ holds c main_v0_1 n) ∗ idleCounters c
            ∗ ∃ W', owes (c : Thread nD τ) 0 W')) := by
  iintro ⟨⟨Hx, Hn, Hy, Hk⟩, ⟨Hs, Hr⟩, HO⟩
  unfold bodyAt0 cc0__passthrough_copy
  sl_exec
  sl_step
  rw [show (Memref.whole main_v0_0).view.write (Elt F) y (body_copies.sl.dma0 c x) Finset.univ = x from
      View.write_whole_univ (Val := Elt F) main_v0_0 y _,
    show (Memref.whole main_v0_1).view.write (Elt F) k (body_copies.sl.dma0_1 c n) Finset.univ = n from
      View.write_whole_univ (Val := Elt F) main_v0_1 k _]
  isplitl [Hx Hn Hy Hk]
  · isplitl [Hx]; · iexact Hx
    isplitl [Hn]; · iexact Hn
    isplitl [Hy] <;> iassumption
  isplitl [Hs Hr]
  · isplitl [Hs]; · iexact Hs
    iexact Hr
  iexists _; iexact HO

end Cert.KernelIdeal.Copies

end
-- ==== Proof.Run.lean ====
/- Hand-written. The kernel's whole run, at any float values: the one region of @main entered with the four arrays and the
   body's two DMA counters in the invariant, and left with both results holding the arguments' words. -/
module

public import proofs.«01_k».proof.Proof.Copies

@[expose] public section

noncomputable section

namespace Cert.KernelIdeal.Run

open Cert.KernelIdeal Cert.KernelIdeal.Gen Cert.KernelIdeal.Copies
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-- One core's four arrays: what each of its buffers holds. -/
abbrev Contents (F : FTy → Type) (c : Dev nD) : Type := (b : Ref sig .tc) → Buf (Elt F) ((c.tc : Thread nD τ).loc b)

/-- The arrays as launched. -/
def launched (c : Dev nD) : Contents F c := fun b => m ((c.tc : Thread nD τ).loc b)

/-- The arrays once both copies have arrived: each result holds its argument's launch words, the rest is as launched. -/
def copied (c : Dev nD) : Contents F c :=
  Function.update (Function.update (launched m c) main_v0_0 (launched m c main_arg0)) main_v0_1 (launched m c main_arg1)

/-- The first result ends with the launch contents of the features. -/
theorem copied_features (c : Dev nD) : copied m c main_v0_0 = m ((c.tc : Thread nD τ).loc main_arg0) := by
  unfold copied
  rw [Function.update_of_ne (by decide), Function.update_self]; rfl

/-- The second result ends with the launch contents of the lengths. -/
theorem copied_lengths (c : Dev nD) : copied m c main_v0_1 = m ((c.tc : Thread nD τ).loc main_arg1) := by
  unfold copied
  rw [Function.update_self]; rfl

/-- The features end as launched. -/
theorem copied_arg0 (c : Dev nD) : copied m c main_arg0 = m ((c.tc : Thread nD τ).loc main_arg0) := by
  unfold copied
  rw [Function.update_of_ne (by decide), Function.update_of_ne (by decide)]; rfl

/-- The lengths end as launched. -/
theorem copied_arg1 (c : Dev nD) : copied m c main_arg1 = m ((c.tc : Thread nD τ).loc main_arg1) := by
  unfold copied
  rw [Function.update_of_ne (by decide), Function.update_of_ne (by decide)]; rfl

/-- The arrays the body touches: both arguments and both results. -/
def arrays : Finset (Ref sig .tc) := {main_arg0, main_arg1, main_v0_0, main_v0_1}

/-- The DMA semaphores of the body: one for each copy. -/
abbrev copySems : Fin 2 → SemLoc sig := fun j => (![SemLoc.dma 0, SemLoc.dma 1] : Fin 2 → SemLoc sig) j

/-- The two DMA semaphores are distinct scoped cells that no window of the call uses. -/
theorem copySems_facts : Pipeline.OwnSemFacts cfg0.spec copySems := by decide

/-- The four arrays are buffers that no window of the call stages. -/
theorem arrays_sub : arrays ⊆ Pipeline.restRefs sig cfg0.spec := by decide

/-- The invariant with the arrays at `W`: the arrays, the two counters at zero, and the generator register. -/
abbrev invariant (c : Dev nD) (W : Contents F c) : sProp 𝕄 := Pipeline.Ends cfg0.spec copySems arrays c W

/-- The invariant, one conjunct for each array and each counter. -/
theorem invariant_eq (c : Dev nD) (W : Contents F c) :
    invariant c W = (iprop((holds c main_arg0 (W main_arg0) ∗ holds c main_arg1 (W main_arg1)
        ∗ holds c main_v0_0 (W main_v0_0) ∗ holds c main_v0_1 (W main_v0_1))
      ∗ idleCounters c ∗ emp ∗ ∃ r, prngReg c r) : sProp 𝕄) := by
  unfold invariant Pipeline.Ends Pipeline.routed
  rw [bigSep_eq_bigSepL_of_eq [main_arg0, main_arg1, main_v0_0, main_v0_1] (by decide) (by decide),
    Pipeline.ownSems0_eq_of_list c copySems [0, 1] (by decide) (by decide), scopedRest0_eq]
  rfl

/-- The proof data of the one region: no window; before its one point the arrays are as launched, after it as copied. -/
def dats (p : Fin 1) (c : Dev nD) : Pipeline.Dat τ (Elt F) Unit ℕ (Pipeline.UC sig nD τ) ℕ (cfgs p) c where
  A w := w.elim0
  after w := w.elim0
  Φ t := invariant c (if t.val = 0 then launched m c else copied m c)
  q _ := fullShare
  owed _ := 0

/-- At the region's one point the body takes the arrays from launched to copied. -/
theorem body_obligation (c : Dev nD) :
    Pipeline.BodyObligationLoose (dats m 0 c) defs₀ Variants.none () Set.univ := by
  intro t
  have h0 : (dats m 0 c).Φ t.castSucc = invariant c (launched m c) := by
    rw [fin_N0 t]; rfl
  have h1 : (dats m 0 c).Φ t.succ = invariant c (copied m c) := by
    rw [fin_N0 t]; rfl
  rw [h0, h1, invariant_eq, invariant_eq, copied_arg0, copied_arg1, copied_features, copied_lengths]
  iintro ⟨⟨Harr, Hcnt, -, Hp⟩, ⟨%W, %hW, HO⟩, -⟩
  iapply wp_wand_r
  isplitl [Harr Hcnt HO]
  · iapply (body_copies c _ _ _ _ W t)
    isplitl [Harr]; · iexact Harr
    isplitl [Hcnt]; · iexact Hcnt
    iexact HO
  iintro %u ⟨Harr, Hcnt, ⟨%W', HO⟩⟩
  isplitl [Harr Hcnt Hp]
  · isplitl [Harr]; · iexact Harr
    isplitl [Hcnt]; · iexact Hcnt
    isplitr; · iempintro
    iexact Hp
  isplitl [HO]
  · iexists W'
    isplitr
    · ipureintro; exact fun _ _ => .inl trivial
    iexact HO
  rw [show (Finset.univ : Finset (Fin (cfgs 0).W)) = ∅ from rfl, bigSep_empty]
  iempintro

/-- Every weakly fair execution of @main ends with the arrays as copied and every semaphore counter at zero. -/
theorem run :
    θ_run defs (onTc (τ := τ) (main (F := F))) ⟨m, fun _ => 0, ρ⟩ (fun r => (∀ c : Dev nD,
      r.2.mem ((c.tc : Thread nD τ).loc main_v0_0) = m ((c.tc : Thread nD τ).loc main_arg0)
      ∧ r.2.mem ((c.tc : Thread nD τ).loc main_v0_1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_routed cfgs (dats m) 0 launch0 copySems_facts defs₀ Variants.none m ρ main
    (hbody := body_obligation m) (hshare := fun _ w => w.elim0) (howed := fun _ _ => rfl)
    (V := launched m)
    (hmain := Pipeline.hmain_region cfgs 0 defs₀ Variants.none m main fun c => (main_chain c).trans rfl)
    (hA := fun _ w => w.elim0) (R := arrays) (hR := arrays_sub) (Y := copied m)
    (hin := fun _ => .rfl) (hout := fun _ => .rfl) (Q' := _)
    (hQ' := fun r h => ⟨fun c => by
      have hb := (h.1 c).2.1
      exact ⟨(hb main_v0_0 (by decide)).trans (copied_features m c), (hb main_v0_1 (by decide)).trans (copied_lengths m c),
        (hb main_arg0 (by decide)).trans (copied_arg0 m c), (hb main_arg1 (by decide)).trans (copied_arg1 m c)⟩, h.2⟩)

end Cert.KernelIdeal.Run

end
-- ==== Proof.lean ====
/- Hand-written. The five claims, read off two runs: the kernel's (Proof/Run.lean, at any float values) and the
   reference's, which computes nothing: @main returns its arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The printed kernel terminates, keeps its arguments and leaves every semaphore counter at zero. Its text is the ideal
    program's, so this is the ideal program's run taken at float words. -/
theorem frame_kernel : quiescent_Kernel := fun m g _ =>
  θ_run_mono (Cert.KernelIdeal.Run.run (F := Bits) m g) fun _ h => ⟨fun c => (h.1 c).2.2, h.2⟩

/-- The kernel over the extended reals terminates, keeps its arguments and leaves every semaphore counter at zero. -/
theorem frame_kernelIdeal : quiescent_KernelIdeal := fun m g _ =>
  θ_run_mono (Cert.KernelIdeal.Run.run m g) fun _ h => ⟨fun c => (h.1 c).2.2, h.2⟩

/-- The reference over the extended reals terminates, keeps its arguments and leaves every semaphore counter at zero. -/
theorem frame_referenceIdeal : quiescent_ReferenceIdeal := by
  intro m g _
  hlo_run
  · exact fun _ => ⟨trivial, trivial⟩
  · exact sem_eq_zero_of_no_sems rfl r.2

/-- Both programs return the features and the lengths they were given. -/
theorem same_results : algebraic_KernelIdeal_ReferenceIdeal := by
  intro m g m' g' _ hagree
  refine ⟨fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1), ?_, ?_⟩
  · exact θ_run_mono (Cert.KernelIdeal.Run.run m g) fun _ h => h.1
  · exact θ_run_mono (frame_referenceIdeal m' g' trivial) fun _ h c =>
      ⟨(h.1 c).1.trans (hagree c).1, (h.1 c).2.trans (hagree c).2, h.1 c⟩

/-- All the claims together: the facts about the printed programs, the three frames, the idealization, the equality. -/
theorem claim : Cert.Claim :=
  ⟨Cert.Kernel.Gen.facts, Cert.KernelIdeal.Gen.facts, Cert.ReferenceIdeal.Gen.facts,
    frame_kernel, frame_kernelIdeal, frame_referenceIdeal, trivial, same_results⟩

end Cert.Proof

end
